-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512 : Shape := ⟨2, ![2, 512]⟩
abbrev S_ : Shape := ⟨0, ![]⟩
abbrev S512x1 : Shape := ⟨2, ![512, 1]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .hbm, ⟨2, _⟩ => ⟨S512, .bf16⟩
  | .hbm, ⟨3, _⟩ => ⟨S2x512, .f32⟩
  | .local _ .vmem, ⟨0, _⟩ => ⟨S512x512, .bf16⟩
  | .local _ .vmem, ⟨1, _⟩ => ⟨S512x512, .bf16⟩
  | .local _ .vmem, ⟨2, _⟩ => ⟨S2x512, .f32⟩
  | .local _ .vmem, ⟨3, _⟩ => ⟨S2x512, .f32⟩
  | .local _ .vmem, ⟨4, _⟩ => ⟨S2x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v43 : BitVec 32 := Scalar.muli v2 c2_i32_19
  let v44 : BitVec 32 := Scalar.addi c0_i32_20 v43
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_21 : BitVec 32 := 1#32
  let v45 : BitVec 32 := Scalar.muli v6 c1_i32_21
  let v46 : BitVec 32 := Scalar.addi v44 v45
  v46.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩
abbrev S2x512 : Shape := ⟨2, ![2, 512]⟩

abbrev nBuf : Space → Nat
  | .hbm => 54
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S512, .bf16⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .i32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x1, .f32⟩
  | .hbm, ⟨28, _⟩ => ⟨S1024x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S_, .f32⟩
  | .hbm, ⟨36, _⟩ => ⟨S1024x1, .f32⟩
  | .hbm, ⟨37, _⟩ => ⟨S1024x1, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S1x512, .f32⟩
  | .hbm, ⟨53, _⟩ => ⟨S2x512, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_cst_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩

abbrev nD : Nat := 1
abbrev τ : Topo := Topo.v7x

variable {F : FTy → Type} [FloatOps F]
-- ==== Proof.Exchange.lean ====
/-
# The pairwise exchange and the kernel's body

The four devices form two pairs: device `c` and `peer c` share the first mesh coordinate and differ in the
second. Device `c` writes its two partial sums (`part c`) in its send buffer, tells its peer by a unit on the
barrier semaphore that its receive buffer is free, waits for the peer's unit, copies the send buffer to the
peer's receive buffer, waits for its own departure and for the arrival from the peer, and stores the sum of
the two buffers.

The protocol has one round and one duty per cell. A unit on the barrier cell of `c` hands over the peer's
receive buffer; the credit of the send cell of `c` hands back its send buffer; the credit of the receive cell
of `c` hands over its receive buffer, filled with the peer's partial sums.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The rounds of the exchange, one duty per round. -/
abbrev UB : Type := URounds (GSem nD τ sig) Unit
/-- The staging copies' ghost state beside the exchange's. -/
abbrev UU : Type := UR sig nD τ × UB

local notation "𝕄" => MT nD τ sig Unit (Elt F) ℕ UU ℕ

/-- Where the staging copies' ghost state lies. -/
abbrev EP : Emb (UR sig nD τ) (MT nD τ sig Unit (Elt F) ℕ UU ℕ) := embL
/-- Where the exchange's ghost state lies. -/
abbrev EX : Emb UB (MT nD τ sig Unit (Elt F) ℕ UU ℕ) := embR

/-! ## Devices and cells -/

/-- The other device with the same first mesh coordinate. -/
def peer (c : Dev nD) : Dev nD := ⟨2 * (c.val / 2) + 1 - c.val % 2, by have h : c.val < 4 := c.isLt; show _ < 4; omega⟩

/-- Pairs are symmetric. -/
theorem peer_peer (c : Dev nD) : peer (peer c) = c := by revert c; decide

/-- The device the kernel signals is the peer. -/
theorem signalled_eq (c : Dev nD) : (⟨k0_dev1 c, k0_dev1_lt c⟩ : Dev nD) = peer c := Fin.ext (k0_dev1_eq c)

/-- The device the kernel copies to is the peer. -/
theorem target_eq (c : Dev nD) : (⟨k0_dev2 c, k0_dev2_lt c⟩ : Dev nD) = peer c := Fin.ext (k0_dev2_eq c)

/-- The barrier semaphore. -/
abbrev barS : SemLoc sig := .reg (SemArray.scalar (sig.barrier 0 rfl) : Sems sig S_).sem
/-- The semaphore counting the departure. -/
abbrev sndS : SemLoc sig := .dma cc0_scratch2.sem
/-- The semaphore counting the arrival. -/
abbrev rcvS : SemLoc sig := .dma cc0_scratch3.sem

/-- The kernel's own two semaphores. -/
abbrev osem : Fin 2 → SemLoc sig := ![sndS, rcvS]
/-- All three semaphores of the exchange. -/
abbrev xsem : Fin 3 → SemLoc sig := ![barS, sndS, rcvS]

/-- Semaphore `k` of the exchange on device `c`. -/
abbrev cell (p : Dev nD × Fin 3) : GSem nD τ sig := ((p.1 : Thread nD τ), xsem p.2)

/-- Device `c`'s barrier cell. -/
abbrev barCell (c : Dev nD) : GSem nD τ sig := ((c : Thread nD τ), barS)
/-- Device `c`'s departure cell. -/
abbrev sndCell (c : Dev nD) : GSem nD τ sig := ((c : Thread nD τ), sndS)
/-- Device `c`'s arrival cell. -/
abbrev rcvCell (c : Dev nD) : GSem nD τ sig := ((c : Thread nD τ), rcvS)

/-- The three semaphores are different, so the cells are. -/
theorem cell_injective : Function.Injective cell := fun p q h => by
  have hs : Function.Injective xsem := by decide
  have hd : p.1 = q.1 := congrArg (fun g : GSem nD τ sig => g.1.1) h
  exact Prod.ext hd (hs (congrArg Prod.snd h))

/-- The cells of the exchange. -/
def cells : Finset (GSem nD τ sig) := Finset.univ.map ⟨cell, cell_injective⟩

/-- Every device's cells are among them. -/
theorem mem_cells (p : Dev nD × Fin 3) : cell p ∈ cells := Finset.mem_map_of_mem _ (Finset.mem_univ p)
/-- A barrier cell is a cell of the exchange. -/
theorem bar_mem (c : Dev nD) : barCell c ∈ cells := mem_cells (c, 0)
/-- A departure cell is a cell of the exchange. -/
theorem snd_mem (c : Dev nD) : sndCell c ∈ cells := mem_cells (c, 1)
/-- An arrival cell is a cell of the exchange. -/
theorem rcv_mem (c : Dev nD) : rcvCell c ∈ cells := mem_cells (c, 2)

/-- What a whole buffer of partial sums credits. -/
abbrev N : ℕ := (Memref.whole cc0_scratch1 : Memref sig .tc .vmem S2x512 .f32).view.dmaCredit

/-! ## Contents -/

section Protocol
variable (m : (ℓ : Loc nD τ sig) → Buf (Elt F) ℓ) (ρ : Dev nD → PrngReg)

/-- The block of `x` device `c`'s kernel reads. -/
abbrev xIn (c : Dev nD) : Vec F S512x512 .bf16 := iblk m c 0 t0_0
/-- The block of `dy` device `c`'s kernel reads. -/
abbrev dyIn (c : Dev nD) : Vec F S512x512 .bf16 := iblk m c 1 t0_0

/-- Column `j` of a single row. -/
def column (j : Fin 512) : S1x512.Idx := fun a => match a with
  | ⟨0, _⟩ => (0 : Fin 1)
  | ⟨1, _⟩ => j

/-- Device `c`'s partial sums: the sums over its rows for gamma above those for beta. -/
def part (c : Dev nD) : Vec F S2x512 .f32 := fun i =>
  if (i (0 : Fin 2)).val = 0 then k0_pay1 (k0_pay5 (xIn m c) (dyIn m c)) (column (i (1 : Fin 2)))
  else k0_pay2 (k0_pay4 (dyIn m c)) (column (i (1 : Fin 2)))

/-- What device `c` stores in the end: its partial sums and its peer's, added. -/
def total (c : Dev nD) : Vec F S2x512 .f32 := k0_pay3 (part m c) (part m (peer c))

/-- Buffer `b` of device `c`, wholly held, with contents `f`. -/
def held (b : Ref sig .tc) (c : Dev nD) (f : b.ty.Contents (Elt F)) : sProp 𝕄 :=
  (Memref.whole b).view.loc (c : Thread nD τ) ↦[(Memref.whole b).view.set]{fullShare} f

/-- `held`, spelt out. -/
theorem held_def (b : Ref sig .tc) (c : Dev nD) (f : b.ty.Contents (Elt F)) :
    (held b c f : sProp 𝕄) = ((Memref.whole b).view.loc (c : Thread nD τ) ↦[(Memref.whole b).view.set]{fullShare} f) := rfl

/-- `held` as a statement about the buffer's whole index set. -/
theorem held_eq (b : Ref sig .tc) (c : Dev nD) (f : b.ty.Contents (Elt F)) :
    (held b c f : sProp 𝕄) = (((c : Thread nD τ).loc b) ↦{fullShare} f) := by
  unfold held; rw [View.set_whole]

/-- A held buffer can be kept in an invariant. -/
instance held_storable (b : Ref sig .tc) (c : Dev nD) (f : b.ty.Contents (Elt F)) : BI.Storable (upEmb : UEmb _ 𝕄) (held b c f) := by
  unfold held; infer_instance

/-! ## The schedule -/

/-- One round of one duty in every cell: the barrier cells count units, the others a buffer's credit. -/
def plan : Rounds.Schedule (GSem nD τ sig) Unit 𝕄 where
  duties g r := if g ∈ cells ∧ r = 0 then {()} else ∅
  unitless _ := False
  amount g _ _ := if g.2 = barS then 1 else N
  payload g _ _ :=
    if g.2 = barS then iprop(∃ f, held cc0_scratch1 (peer g.1.1) f)
    else if g.2 = sndS then held cc0_scratch0 g.1.1 (part m g.1.1)
    else held cc0_scratch1 g.1.1 (part m (peer g.1.1))
  amount_pos g _ _ _ := by
    split
    · exact Nat.one_pos
    · exact View.dmaCredit_pos _ (by decide)

/-- What a duty hands over can be kept in an invariant. -/
instance plan_storable (g : GSem nD τ sig) (r : ℕ) (d : Unit) : BI.Storable (upEmb : UEmb _ 𝕄) ((plan m).payload g r d) := by
  unfold plan; dsimp only
  (repeat' split) <;> infer_instance

/-- Round 0 of a cell has its one duty. -/
theorem duties_of {g : GSem nD τ sig} (h : g ∈ cells) : (plan m).duties g 0 = {()} := if_pos ⟨h, rfl⟩
/-- So a barrier cell has. -/
theorem duties_bar (c : Dev nD) : (plan m).duties (barCell c) 0 = {()} := duties_of m (bar_mem c)
/-- So a departure cell has. -/
theorem duties_snd (c : Dev nD) : (plan m).duties (sndCell c) 0 = {()} := duties_of m (snd_mem c)
/-- So an arrival cell has. -/
theorem duties_rcv (c : Dev nD) : (plan m).duties (rcvCell c) 0 = {()} := duties_of m (rcv_mem c)

/-- Later rounds have none. -/
theorem duties_later (g : GSem nD τ sig) (r : ℕ) (h : 0 + 1 ≤ r) : (plan m).duties g r = ∅ :=
  if_neg fun hr => by have := hr.2; omega

/-- A barrier duty is one unit. -/
theorem amount_bar (c : Dev nD) (d : Unit) : (plan m).amount (barCell c) 0 d = 1 := rfl
/-- A departure is a buffer's credit. -/
theorem amount_snd (c : Dev nD) (d : Unit) : (plan m).amount (sndCell c) 0 d = N := rfl
/-- An arrival is a buffer's credit. -/
theorem amount_rcv (c : Dev nD) (d : Unit) : (plan m).amount (rcvCell c) 0 d = N := rfl

/-- A round of one duty expects that duty's amount. -/
theorem expect_of {g : GSem nD τ sig} (h : (plan m).duties g 0 = {()}) : (plan m).expect g 0 = (plan m).amount g 0 () := by
  unfold Rounds.Schedule.expect; rw [h]; exact Finset.sum_singleton _ _
/-- A barrier round expects one unit. -/
theorem expect_bar (c : Dev nD) : (plan m).expect (barCell c) 0 = 1 := expect_of m (duties_bar m c)
/-- A departure round expects a buffer's credit. -/
theorem expect_snd (c : Dev nD) : (plan m).expect (sndCell c) 0 = N := expect_of m (duties_snd m c)
/-- An arrival round expects a buffer's credit. -/
theorem expect_rcv (c : Dev nD) : (plan m).expect (rcvCell c) 0 = N := expect_of m (duties_rcv m c)

/-- A unit on `c`'s barrier cell hands over the peer's receive buffer. -/
theorem payload_bar (c : Dev nD) (d : Unit) :
    (plan m).payload (barCell c) 0 d = iprop(∃ f, held cc0_scratch1 (peer c) f) := rfl
/-- The departure hands back the send buffer. -/
theorem payload_snd (c : Dev nD) (d : Unit) :
    (plan m).payload (sndCell c) 0 d = held cc0_scratch0 c (part m c) := rfl
/-- The arrival hands over the receive buffer with the peer's partial sums. -/
theorem payload_rcv (c : Dev nD) (d : Unit) :
    (plan m).payload (rcvCell c) 0 d = held cc0_scratch1 c (part m (peer c)) := rfl

attribute [local sl_rounds] duties_bar duties_snd duties_rcv amount_bar amount_snd amount_rcv expect_bar expect_snd
  expect_rcv payload_bar payload_snd payload_rcv peer_peer
  held_def

/-! ## What is owed, and the levels -/

/-- At launch device `c` owes its peer one arrival and one barrier unit. -/
def debt (c : Dev nD) : CellTallies nD τ sig Unit := tallyAt (rcvCell (peer c)) () N + tallyAt (barCell (peer c)) () 1

/-- Every cell of a TensorCore is ranked. -/
def L (g : GSem nD τ sig) : Finset Unit := if g.1.2 = .tc then {()} else ∅

/-- The ranks: barrier cells below arrival cells, all else at the bottom. -/
def rank (g : GSem nD τ sig) (_ : Unit) : ℕ := if g.2 = barS then 1 else if g.2 = rcvS then 2 else 0

/-- A device may wait on a cell ranked below everything it owes, here below all barrier cells. -/
theorem mayWait_low (c : Dev nD) (s : SemLoc sig) (hs : rank ((c : Thread nD τ), s) () = 0) :
    (levAts L rank : sProp 𝕄) ⊢ MayWait (c : Thread nD τ) s () (debt c) :=
  Pipeline.mayWait_of_levAts (by rw [L, if_pos rfl]; exact Finset.mem_singleton_self _) fun g i h => by
    rw [hs]
    rcases Pipeline.add_pos_cases h with h | h <;> obtain ⟨rfl, -⟩ := Pipeline.tallyAt_pos h
    · exact ⟨by rw [L, if_pos rfl]; exact Finset.mem_singleton_self _, by show 0 < 2; decide⟩
    · exact ⟨by rw [L, if_pos rfl]; exact Finset.mem_singleton_self _, by show 0 < 1; decide⟩

/-- A device may wait on its barrier cell while it owes an arrival. -/
theorem mayWait_bar (c : Dev nD) :
    (levAts L rank : sProp 𝕄) ⊢ MayWait (c : Thread nD τ) barS () (tallyAt (rcvCell (peer c)) () N) :=
  Pipeline.mayWait_of_levAts (by rw [L, if_pos rfl]; exact Finset.mem_singleton_self _) fun g i h => by
    obtain ⟨rfl, -⟩ := Pipeline.tallyAt_pos h
    exact ⟨by rw [L, if_pos rfl]; exact Finset.mem_singleton_self _, by show 1 < 2; decide⟩

/-! ## What a device holds before and after the body -/

/-- What all devices know: every cell's invariant, and that every cell stands at round 0. -/
def known (κ : GSem nD τ sig → ℕ) : sProp 𝕄 :=
  iprop((bigSep cells fun g => cellInv EX (plan m) (κ g) g) ∗ bigSep cells fun g => reached EX g 0)

instance known_persistent (κ : GSem nD τ sig → ℕ) : BI.Persistent (known m κ) := by unfold known; infer_instance

/-- One cell's invariant and round, out of what all know. -/
theorem known_at (κ : GSem nD τ sig → ℕ) {g : GSem nD τ sig} (h : g ∈ cells) :
    known m κ ⊢ iprop(cellInv EX (plan m) (κ g) g ∗ reached EX g 0) :=
  BI.sep_mono (BI.bigSep_elim h) (BI.bigSep_elim h)

/-- The positions device `c` holds in its own cells and the duties it is to pay: the unit and the arrival at its
    peer, the departure at home. -/
def turns (c : Dev nD) : sProp 𝕄 :=
  iprop((atPos EX (barCell c) 0 ∅ 0 ∗ atPos EX (sndCell c) 0 ∅ 0 ∗ atPos EX (rcvCell c) 0 ∅ 0)
    ∗ dutyTok EX (barCell (peer c)) 0 () ∗ dutyTok EX (sndCell c) 0 () ∗ dutyTok EX (rcvCell (peer c)) 0 ())

/-- What device `c` is given at launch: what all know, its turns, what it will be paid, and the ranks. -/
def gift (c : Dev nD) : sProp 𝕄 :=
  iprop((∃ κ, known m κ ∗ turns c) ∗ cred (tallyAt (barCell c) () 1) ∗ cred (tallyAt (rcvCell c) () N) ∗ levAts L rank)

/-- The two buffers of device `c` that belong to no window, at whatever they hold. -/
def buffers (c : Dev nD) : sProp 𝕄 :=
  iprop((∃ f, held cc0_scratch0 c f) ∗ ∃ f, held cc0_scratch1 c f)

/-- After the body: the buffers, and all three counters back at zero. -/
def done (c : Dev nD) : sProp 𝕄 :=
  iprop(buffers c ∗ semVal (barCell c) 0 ∗ semVal (sndCell c) 0 ∗ semVal (rcvCell c) 0)

/-- The body's contract: the two inputs stay, the result window ends at `total`. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => dyIn m c
    | ⟨2, _⟩ => total m c
  Φ t := if t.val = 0 then iprop(gift m c ∗ buffers c) else done c
  q _ := fullShare
  owed t := if t.val = 0 then debt c else 0

/-! ## The body -/

/-- What the body is handed. -/
def before (κ : GSem nD τ sig → ℕ) (c : Dev nD) (W : Waits sig Unit) : sProp 𝕄 :=
  iprop(known m κ ∗ turns c ∗ cred (tallyAt (barCell c) () 1) ∗ cred (tallyAt (rcvCell c) () N) ∗ levAts L rank
    ∗ buffers c ∗ owes c (debt c) W
    ∗ held cc0_stg0_0 c (xIn m c) ∗ held cc0_stg1_0 c (dyIn m c)
    ∗ ∃ f, held cc0_stg2_0 c f)

/-- What the body leaves. -/
def after (c : Dev nD) : sProp 𝕄 :=
  iprop(done c ∗ (∃ W, owes c 0 W)
    ∗ held cc0_stg0_0 c (xIn m c) ∗ held cc0_stg1_0 c (dyIn m c)
    ∗ held cc0_stg2_0 c (total m c))

/-- The zero offset. -/
theorem zero_off : (![0, 0] : Fin 2 → ℕ) = fun _ => 0 := by decide

/-- Writing the two rows one after the other leaves the partial sums, whatever the buffer held. -/
theorem rows_written (c : Dev nD) (f : (cc0_scratch0 : Ref sig .tc).ty.Contents (Elt F)) :
    (Memref.whole cc0_scratch0).view.writes (Elt F) f
      [⟨Rect.unit (s := S2x512) ![1, 0] S1x512.size inb_S2x512_S1x512_1_0, k0_pay2 (k0_pay4 (dyIn m c))⟩,
       ⟨Rect.unit (s := S2x512) ![0, 0] S1x512.size inb_S2x512_S1x512_0_0, k0_pay1 (k0_pay5 (xIn m c) (dyIn m c))⟩] = part m c := by
  funext i
  rw [View.writes_cons, View.writes_cons, View.writes_nil]
  by_cases h : (i (0 : Fin 2)).val = 0
  · have hi : i = ((Memref.whole cc0_scratch0).view.slice (Rect.unit (s := S2x512) ![0, 0] S1x512.size inb_S2x512_S1x512_0_0)).emb
        (column (i (1 : Fin 2))) := funext fun a => Fin.ext (by
      match a with
      | ⟨0, _⟩ => exact h
      | ⟨1, _⟩ => show (i (1 : Fin 2)).val = 0 + 1 * (i (1 : Fin 2)).val; omega)
    rw [View.write_of_not_mem]
    · rw [part, if_pos h]
      conv_lhs => rw [hi]
      exact View.write_emb_of_mem _ _ (Finset.mem_univ _)
    · intro hm
      obtain ⟨x, -, hx⟩ := Finset.mem_map.mp hm
      have := congrArg (fun j : S2x512.Idx => (j (0 : Fin 2)).val) hx
      change 1 + 1 * (x (0 : Fin 2)).val = (i (0 : Fin 2)).val at this
      omega
  · have hi : i = ((Memref.whole cc0_scratch0).view.slice (Rect.unit (s := S2x512) ![1, 0] S1x512.size inb_S2x512_S1x512_1_0)).emb
        (column (i (1 : Fin 2))) := funext fun a => Fin.ext (by
      have h2 : (i (0 : Fin 2)).val < 2 := (i (0 : Fin 2)).isLt
      match a with
      | ⟨0, _⟩ => show (i (0 : Fin 2)).val = 1 + 1 * 0; omega
      | ⟨1, _⟩ => show (i (1 : Fin 2)).val = 0 + 1 * (i (1 : Fin 2)).val; omega)
    rw [part, if_neg h]
    conv_lhs => rw [hi]
    exact View.write_emb_of_mem _ _ (Finset.mem_univ _)

/-- Storing the sum of the two buffers leaves `total`, whatever the result window held. -/
theorem total_written (c : Dev nD) (f : (cc0_stg2_0 : Ref sig .tc).ty.Contents (Elt F)) :
    (Memref.whole cc0_stg2_0).view.writes (Elt F) f
      [⟨Rect.unit (s := S2x512) ![0, 0] S2x512.size inb_S2x512_S2x512_0_0,
        k0_pay3
          ((Memref.whole cc0_scratch0).view.readAt (Elt F)
            (Rect.unit (s := S2x512) ![0, 0] S2x512.size inb_S2x512_S2x512_0_0).toLoadRect (part m c))
          ((Memref.whole cc0_scratch1).view.readAt (Elt F)
            (Rect.unit (s := S2x512) ![0, 0] S2x512.size inb_S2x512_S2x512_0_0).toLoadRect (part m (peer c)))⟩] = total m c := by
  rw [View.writes_singleton,
    show (Memref.whole cc0_scratch0).view.readAt (Elt F) _ (part m c) = part m c from
      Memref.readAt_unit_zero (Elt F) cc0_scratch0 zero_off inb_S2x512_S2x512_0_0 (part m c),
    show (Memref.whole cc0_scratch1).view.readAt (Elt F) _ (part m (peer c)) = part m (peer c) from
      Memref.readAt_unit_zero (Elt F) cc0_scratch1 zero_off inb_S2x512_S2x512_0_0 (part m (peer c))]
  exact Memref.write_access_unit_zero_univ (Elt F) cc0_stg2_0 zero_off inb_S2x512_S2x512_0_0 f (total m c)

/-- The body runs from `before` to `after`. -/
theorem body_runs (κ : GSem nD τ sig → ℕ) (c : Dev nD) (W : Waits sig Unit) :
    before m κ c W ⊢ wp frame (wpE (defs₀ (F := F)) Variants.none c none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3) (fun _ => after m c) := by
  rw [cc0_body_eq_skeleton]; unfold cc0_body_skel
  rw [k0_part1_eq_skeleton]; unfold k0_part1_skel
  unfold before turns buffers debt
  unfold held
  iintro ⟨#Hk, ⟨⟨HatB, HatS, HatR⟩, HtB, HtS, HtR⟩, HcB, HcR, #Hlev, ⟨⟨%fs, Hsnd⟩, ⟨%fr, Hrcv⟩⟩, HO, Hx, Hdy, ⟨%fo, Ho⟩⟩
  ihave #⟨HiB, HrB⟩ := (known_at m κ (bar_mem c)) $$ Hk
  ihave #⟨HiS, HrS⟩ := (known_at m κ (snd_mem c)) $$ Hk
  ihave #⟨HiR, HrR⟩ := (known_at m κ (rcv_mem c)) $$ Hk
  ihave #⟨HiPB, HrPB⟩ := (known_at m κ (bar_mem (peer c))) $$ Hk
  ihave #⟨HiPR, HrPR⟩ := (known_at m κ (rcv_mem (peer c))) $$ Hk
  have hs := signalled_eq c
  have ht := target_eq c
  have hw := mayWait_bar (F := F) c
  set_option sl_exec.maxSteps 14 in sl_exec
  rw [show View.readAt (Elt F) (Memref.whole cc0_stg0_0).view
      (Rect.unit (s := S512x512) ![0, 0] S512x512.size inb_S512x512_S512x512_0_0).toLoadRect (iblk m c 0 t0_0) = xIn m c
      from Memref.readAt_unit_zero (Elt F) cc0_stg0_0 zero_off _ _,
    show View.readAt (Elt F) (Memref.whole cc0_stg1_0).view
      (Rect.unit (s := S512x512) ![0, 0] S512x512.size inb_S512x512_S512x512_0_0).toLoadRect (iblk m c 1 t0_0) = dyIn m c
      from Memref.readAt_unit_zero (Elt F) cc0_stg1_0 zero_off _ _, rows_written m c fs]
  sl_exec
  rw [total_written m c fo]
  imod (Rounds.cell_close EX (plan m) (Set.mem_univ (κ (barCell c))) (fun h => h) (R := 1) (duties_later m (barCell c))) $$ [HatB] with HzB
  · isplitr; · iexact HiB
    iexact HatB
  imod (Rounds.cell_close EX (plan m) (Set.mem_univ (κ (sndCell c))) (fun h => h) (R := 1) (duties_later m (sndCell c))) $$ [HatS] with HzS
  · isplitr; · iexact HiS
    iexact HatS
  imod (Rounds.cell_close EX (plan m) (Set.mem_univ (κ (rcvCell c))) (fun h => h) (R := 1) (duties_later m (rcvCell c))) $$ [HatR] with HzR
  · isplitr; · iexact HiR
    iexact HatR
  sl_step
  unfold after done buffers held
  isplitl [HatS_pay1 HatR_pay1 HzB HzS HzR]
  · isplitl [HatS_pay1 HatR_pay1]
    · isplitl [HatS_pay1]
      · iexists _; iexact HatS_pay1
      · iexists _; iexact HatR_pay1
    · isplitl [HzB]; · iexact HzB
      isplitl [HzS] <;> iassumption
  isplitl [HO]; · iexists _; iexact HO
  isplitl [Hx]; · iexact Hx
  isplitl [Hdy] <;> iassumption

/-- A staging buffer handed to the body, as a held buffer. -/
theorem owns_eq_held (c : Dev nD) (b : Ref sig .tc) (f : b.ty.Contents (Elt F)) :
    (owns (c : Thread nD τ) (Memref.whole b) fullShare f : sProp 𝕄) = held b c f :=
  (owns_whole (c : Thread nD τ) b fullShare f).trans (held_eq b c f).symm

/-- The first input window holds the block of `x`. -/
theorem before_x (c : Dev nD) (d) : (dats m 0 c).before 0 t0_0 d = xIn m c := by
  unfold Dat.before; rw [if_pos (fetch0_0 t0_0)]; rfl

/-- The second input window holds the block of `dy`. -/
theorem before_dy (c : Dev nD) (d) : (dats m 0 c).before 1 t0_0 d = dyIn m c := by
  unfold Dat.before; rw [if_pos (fetch0_1 t0_0)]; rfl

/-- The body meets its contract on every device. -/
theorem body_obligation (c : Dev nD) : BodyObligation (dats m 0 c) (defs₀ (F := F)) Variants.none () Set.univ := fun t => by
  rw [fin_N0 t, bigSep_W0, bigSep_W0]
  show iprop((gift m c ∗ buffers c) ∗ Pipeline.owesWithin c (debt c) ((dats m 0 c).bound () t0_0.castSucc)
      ∗ (∃ d, owns (c : Thread nD τ) (Memref.whole cc0_stg0_0) fullShare ((dats m 0 c).before 0 t0_0 d))
      ∗ (∃ d, owns (c : Thread nD τ) (Memref.whole cc0_stg1_0) fullShare ((dats m 0 c).before 1 t0_0 d))
      ∗ (∃ d, owns (c : Thread nD τ) (Memref.whole cc0_stg2_0) fullShare ((dats m 0 c).before 2 t0_0 d)))
    ⊢ wp Idealize.ShloMosaic.frame (wpE (defs₀ (F := F)) Variants.none c none) Set.univ (bodyAt0 t0_0) fun _ =>
      iprop(done c ∗ Pipeline.owesWithin c 0 ((dats m 0 c).bound () t0_0.succ)
        ∗ owns (c : Thread nD τ) (Memref.whole cc0_stg0_0) fullShare (xIn m c)
        ∗ owns (c : Thread nD τ) (Memref.whole cc0_stg1_0) fullShare (dyIn m c)
        ∗ owns (c : Thread nD τ) (Memref.whole cc0_stg2_0) fullShare (total m c))
  simp only [before_x, before_dy, owns_eq_held]
  unfold gift
  refine BIBase.Entails.trans (Q := iprop(∃ κ W, before m κ c W)) ?_
    (sProp.exists_elim fun κ => sProp.exists_elim fun W => (body_runs m κ c W).trans (wp_mono _ _ _ fun _ => ?_))
  · unfold before
    iintro ⟨⟨⟨⟨%κ, Hk, Ht⟩, Hb, Hr, Hl⟩, Hbuf⟩, ⟨%W, -, HO⟩, ⟨%d0, Hx⟩, ⟨%d1, Hdy⟩, ⟨%d2, Ho⟩⟩
    iexists κ; iexists W
    isplitl [Hk]; · iexact Hk
    isplitl [Ht]; · iexact Ht
    isplitl [Hb]; · iexact Hb
    isplitl [Hr]; · iexact Hr
    isplitl [Hl]; · iexact Hl
    isplitl [Hbuf]; · iexact Hbuf
    isplitl [HO]; · iexact HO
    isplitl [Hx]; · iexact Hx
    isplitl [Hdy]; · iexact Hdy
    iexists _; iexact Ho
  · unfold after
    iintro ⟨Hd, ⟨%W', HO⟩, Hw⟩
    isplitl [Hd]; · iexact Hd
    isplitl [HO]
    · iexists W'; isplitr; · (ipureintro; exact fun _ _ => Or.inl trivial)
      iexact HO
    iexact Hw

end Protocol
end Cert.Exchange
-- ==== Proof.Launched.lean ====
/-
# The launch and the run

All cells of the exchange are opened at once from the counters at zero, the duties are dealt to the devices
that pay them, and every device runs the body. In the end each device's arguments are unchanged, its result
is `total`, and every counter is at zero.
-/
module

public import proofs.«01_k».proof.Proof.Exchange
public import Idealize.ShloMosaic.Lib.Pipeline.CollectiveSegs
public import Idealize.ShloMosaic.Lib.Pipeline.ValueKit.Geometry

@[expose] public section

noncomputable section

namespace Cert.Exchange

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Counters, cells and duties, by device -/

/-- The kernel's own two counters at zero. -/
theorem ownCounters_eq (c : Dev nD) : (Pipeline.ownSems0 (Ix := Unit) (Name := ℕ) (U := UU) (Lvl := ℕ) (Val := Elt F) (τ := τ) osem c : sProp 𝕄)
    = iprop(semVal (sndCell c) 0 ∗ semVal (rcvCell c) 0) := by
  rw [Pipeline.ownSems0_eq_of_list c osem [0, 1] (by decide) (by decide)]; rfl

/-- The one counter outside the kernel, the barrier's, at zero. -/
theorem outerCounter_eq (c : Dev nD) : (unscopedSems0 c : sProp 𝕄) = semVal (barCell c) 0 := by
  unfold unscopedSems0; rw [bigSep_eq_bigSepL_of_eq [barS] (by decide) (by decide)]; rfl

/-- Something held of every cell is held of the three cells of every device. -/
theorem cells_by_device (Φ : GSem nD τ sig → sProp 𝕄) :
    bigSep cells Φ = bigSep Finset.univ fun c : Dev nD => iprop(Φ (barCell c) ∗ Φ (sndCell c) ∗ Φ (rcvCell c)) := by
  unfold cells
  rw [bigSep_map, bigSep_univ_prod]
  exact bigSep_congr fun c _ => bigSep_univ_eq_bigSepL [0, 1, 2] (by decide) (by decide) _

/-- Something held of every device is held of every device's peer. -/
theorem devices_by_peer (Φ : Dev nD → sProp 𝕄) : bigSep Finset.univ Φ = bigSep Finset.univ fun c => Φ (peer c) :=
  bigSep_univ_equiv ⟨peer, peer, peer_peer, peer_peer⟩ Φ

/-- The duties: one per cell, in round 0. -/
def duties : Finset (GSem nD τ sig × ℕ × Unit) := cells.map ⟨fun g => (g, 0, ()), fun _ _ h => congrArg Prod.fst h⟩

/-- The ghost state of the exchange at launch. -/
def seed : UB := launchOf cells ∅ duties

/-- It is given to the first device. -/
def keep (c : Dev nD) : sProp 𝕄 := if c.val = 0 then BI.own (EX seed) else iprop(emp)

/-- Holding the ghost state is the devices holding their shares. -/
theorem keep_eq : (bigSep Finset.univ keep : sProp 𝕄) = BI.own (EX seed) := by
  have h : ∀ Φ : Dev nD → sProp 𝕄, bigSep Finset.univ Φ = iprop(Φ (0 : Fin 4) ∗ Φ (1 : Fin 4) ∗ Φ (2 : Fin 4) ∗ Φ (3 : Fin 4)) := fun Φ =>
    bigSep_univ_eq_bigSepL [(0 : Fin 4), (1 : Fin 4), (2 : Fin 4), (3 : Fin 4)] (by decide) (by decide) Φ
  rw [h]
  show iprop(BI.own (EX seed) ∗ emp ∗ emp ∗ emp) = BI.own (EX seed)
  refine BI.Entails.antisymm (show (_ : sProp 𝕄) ⊢ _ from ?_) (show (_ : sProp 𝕄) ⊢ _ from ?_)
  · iintro ⟨H, -⟩; iexact H
  · iintro H; isplitl [H]; · iexact H
    isplitr; · iempintro
    isplitr <;> iempintro

section Launch
variable (m : (ℓ : Loc nD τ sig) → Buf (Elt F) ℓ) (ρ : Dev nD → PrngReg)

/-- Holding the duties is holding each cell's. -/
theorem duties_by_cell : (bigSep duties fun x => (dutyTok EX x.1 x.2.1 x.2.2 : sProp 𝕄)) = bigSep cells fun g => dutyTok EX g 0 () :=
  bigSep_map _

/-- The positions and the duties, dealt to the devices. -/
theorem dealt :
    iprop((bigSep cells fun g => (atPos EX g 0 ∅ 0 : sProp 𝕄)) ∗ bigSep duties fun x => dutyTok EX x.1 x.2.1 x.2.2)
      ⊢ bigSep Finset.univ turns := by
  rw [duties_by_cell, cells_by_device, cells_by_device, bigSep_sep' _ (fun c => dutyTok EX (barCell c) 0 ()),
    bigSep_sep' _ (fun c => dutyTok EX (sndCell c) 0 ()), devices_by_peer fun c => dutyTok EX (barCell c) 0 (),
    devices_by_peer fun c => dutyTok EX (rcvCell c) 0 (), ← bigSep_sep', ← bigSep_sep', ← bigSep_sep']
  exact .rfl

/-- From all counters at zero and the ghost state, every device gets what all know and its turns. -/
theorem opened : (bigSep Finset.univ fun c => iprop(Pipeline.ownSems0 (Ix := Unit) (Name := ℕ) (U := UU) (Lvl := ℕ) (Val := Elt F) (τ := τ) osem c
      ∗ unscopedSems0 c ∗ keep c) : sProp 𝕄)
    ⊢ |={Set.univ}=> bigSep Finset.univ fun c => iprop(∃ κ, known m κ ∗ turns c) := by
  have hz : iprop((bigSep Finset.univ fun c => Pipeline.ownSems0 (Ix := Unit) (Name := ℕ) (U := UU) (Lvl := ℕ) (Val := Elt F) (τ := τ) osem c)
      ∗ bigSep Finset.univ fun c => unscopedSems0 c) ⊢ bigSep cells fun g => (semVal g 0 : sProp 𝕄) := by
    rw [cells_by_device, ← bigSep_sep']
    refine bigSep_mono fun c _ => ?_
    rw [ownCounters_eq, outerCounter_eq]
    show (_ : sProp 𝕄) ⊢ _
    iintro ⟨⟨HS, HR⟩, HB⟩
    isplitl [HB]; · iexact HB
    isplitl [HS] <;> iassumption
  rw [bigSep_sep', bigSep_sep', keep_eq]
  iintro ⟨Ho, Hu, Hs⟩
  ihave Hz := hz $$ [Ho Hu]
  · isplitl [Ho] <;> iassumption
  imod (Rounds.fund_launch EX (plan m) (S := cells) (Sd := ∅) (Finset.disjoint_empty_right _) (fun g h => absurd h (Finset.notMem_empty g))
    duties (Es := Set.univ)) $$ [Hz Hs] with ⟨%κ, -, Hi, Hr, Hat, -, Ht⟩
  · isplitl [Hz]; · iexact Hz
    unfold seed; iexact Hs
  imodintro
  ihave Hd := dealt $$ [Hat Ht]
  · isplitl [Hat] <;> iassumption
  have hk : iprop(known m κ ∗ bigSep Finset.univ turns) ⊢ bigSep Finset.univ fun c => iprop(∃ κ, known m κ ∗ turns c) :=
    (sep_mono_left (BI.bigSep_of_persistent Finset.univ (known m κ))).trans (by
      rw [← bigSep_sep']
      refine bigSep_mono fun c _ => (show (_ : sProp 𝕄) ⊢ _ from ?_)
      iintro H; iexists κ; iexact H)
  iapply hk
  isplitr [Hd]
  · unfold known
    isplitl [Hi]
    · rw [Finset.union_empty]; iexact Hi
    · iexact Hr
  · iexact Hd

/-! ## One device's entry and exit -/

/-- The argument the kernel does not read. -/
def spare (c : Dev nD) : sProp 𝕄 := ((c : Thread nD τ).loc main_arg2) ↦{fullShare} m ((c : Thread nD τ).loc main_arg2)

/-- What is owed to device `c` by its peer. -/
theorem paid (c : Dev nD) :
    (Pipeline.launchCred debt c : sProp 𝕄) ⊢ iprop(cred (tallyAt (barCell c) () 1) ∗ cred (tallyAt (rcvCell c) () N)) := by
  unfold debt
  rw [Pipeline.launchCred_add]
  iintro ⟨HR, HB⟩
  isplitl [HB]
  · iapply (Pipeline.launchCred_tallyAt barS peer peer peer_peer peer_peer () 1 c); iexact HB
  · iapply (Pipeline.launchCred_tallyAt rcvS peer peer peer_peer peer_peer () N c); iexact HR

/-- What a device is given, gathered. -/
theorem gift_intro (c : Dev nD) :
    iprop(Pipeline.unscopedRestP Pipeline.Prefetch.none cfg0.spec c (fun b => m ((c : Thread nD τ).loc b)) ∗ levAts L rank
        ∗ Pipeline.launchCred debt c ∗ prngReg c (ρ c) ∗ ∃ κ, known m κ ∗ turns c)
      ⊢ |={Set.univ}=> iprop(gift m c ∗ spare m c) := by
  rw [Pipeline.unscopedRestP_none, unscopedRest0_eq]
  iintro ⟨Hs, Hl, Hc, -, HG⟩
  ihave Hc := (paid (F := F) c) $$ Hc
  icases Hc with ⟨HB, HR⟩
  imodintro
  unfold gift spare
  isplitr [Hs]
  · isplitl [HG]; · iexact HG
    isplitl [HB]; · iexact HB
    isplitl [HR] <;> iassumption
  · iexact Hs

/-- Entering the body. -/
theorem enter (c : Dev nD) :
    iprop(gift m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(gift m c ∗ buffers c) from rfl, scopedRest0_eq]
  unfold buffers
  simp only [held_eq]
  iintro ⟨Hg, -, Hb⟩
  isplitl [Hg] <;> iassumption

/-- Leaving it. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = done c from rfl, scopedRest0_eq, ownCounters_eq, outerCounter_eq]
  unfold done buffers
  simp only [held_eq]
  iintro ⟨Hb, HzB, HzS, HzR⟩
  isplitl [HzB]; · iexact HzB
  isplitr [Hb]
  · isplitl [HzS] <;> iassumption
  · iexact Hb

/-- The staging copies' waits are always allowed. -/
theorem staging_waits (c : Dev nD) : (levAts L rank : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide +revert)
    · show _ ⊢ MayWait _ _ () 0
      rw [MayWait_zero]; iintro -; iempintro

/-! ## The run -/

set_option maxRecDepth 8000 in
/-- Every fair run of the four devices ends, with each array a window of the kernel at its final contents, the
    argument no window covers unchanged, and every counter at zero. -/
theorem run_arrays : θ_run defs (onTc (τ := τ) (main (F := F))) ⟨m, fun _ => 0, ρ⟩ (fun r =>
    (∀ c : Dev nD, (∀ w : Fin cfg0.W, r.2.mem ((cfg0.win w).arr.view.loc (c : Thread nD τ)) = (dats m 0 c).arrAt w cfg0.N)
      ∧ r.2.mem ((c : Thread nD τ).loc main_arg2) = m ((c : Thread nD τ).loc main_arg2)) ∧ r.2.sem = fun _ => 0) :=
  Pipeline.θ_run_region_owing_glob_pf (fun p => (cfgs p).toPCfg) (fun p => (cfgs p).toPCfg_adm) (dats m) () cellOf_inj (0 : Fin 1)
    winFacts0.to₀ (by decide : Pipeline.OwnSemFacts cfg0.spec osem) (Pipeline.PreFacts.none _) EP defs₀ Variants.none m ρ main
    (hmain := fun _ => rfl)
    (hbody := body_obligation m) (hne := fun w => by fin_cases w <;> exact Nat.succ_pos _) (harr := arr_whole0) (hstage := stage_whole0)
    (hshare := fun c w => by unfold Dat.share; split <;> rfl)
    (hdistinct := winFacts0.arr_inj)
    (O₀ := debt) (howed₀ := fun _ => rfl) (howedN := fun _ => rfl)
    (L := L) (lv := rank) (hL := fun g h => if_neg h) (hwaits := staging_waits m)
    (G := keep) (G' := fun c => iprop(∃ κ, known m κ ∗ turns c))
    (u₀ := (initOf (Pipeline.cells cfgs cellOf_inj) (Pipeline.launchToks cfgs cellOf_inj), seed))
    (hu₀ := by
      iintro Hu
      ihave ⟨HP, HX⟩ := (ownU_pair _ _) $$ Hu
      imodintro
      isplitl [HP]; · iexact HP
      rw [keep_eq]; iexact HX)
    (hglob := opened m)
    (hA := fun _ _ => rfl) (hpf := fun _ k => k.elim0)
    (X := gift m) (Y := fun c => unscopedSems0 c) (Z := spare m)
    (hX := gift_intro m ρ) (hin := enter m) (hout := leave m)
    (QY := fun c s => s.mem ((c : Thread nD τ).loc main_arg2) = m ((c : Thread nD τ).loc main_arg2)
      ∧ ∀ sm : SemLoc sig, sm.isScoped .tc = false → s.sem ((c.tc : Thread nD τ), sm) = 0)
    (hY := fun c s' => by
      iintro ⟨Hu, Hs, HSI⟩
      imod (Pipeline.unscopedSems0_read (X := unscopedSems0 c) (c := c) fupd_intro s') $$ [Hu HSI] with ⟨%h, HSI⟩
      · isplitl [Hu] <;> iassumption
      have hr := pointsTo_read_all (Val := Elt F) (Ix := Unit) (Name := ℕ) (U := UU) (Lvl := ℕ) ({()} : Finset Unit)
        (fun _ => (c : Thread nD τ).loc main_arg2) (fun _ => m ((c : Thread nD τ).loc main_arg2)) s'
      rw [bigSep_singleton] at hr
      ihave ⟨%h2, HSI⟩ := hr $$ [Hs HSI]
      · unfold spare; isplitl [Hs] <;> iassumption
      imodintro
      isplitr
      · ipureintro; exact ⟨h2 () (Finset.mem_singleton_self _), h⟩
      · iexact HSI)
    (hQ := fun _ h hs => ⟨fun c => ⟨(h c).1, (h c).2.2.1⟩, sem_eq_zero hs fun c => (h c).2.2.2⟩)

/-- The kernel's result array ends as the total: it is written back once, whole. -/
theorem result_array (c : Dev nD) : (dats m 0 c).arrAt 2 cfg0.N = total m c := by
  refine (dats m 0 c).arrAt_eq_of_after_last 2 t0_0 (by decide +kernel) _ fun j => ?_
  rfl

/-- Every fair run of the four devices ends, with the arguments unchanged, `total` in the result, and every
    counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_v1) = total m c) ∧ r.2.sem = fun _ => 0) :=
  (θ_run defs _ _).mono (fun r h => ⟨fun c => ⟨((h.1 c).1 0).trans ((dats m 0 c).arrAt_in 0 rfl _),
    ((h.1 c).1 1).trans ((dats m 0 c).arrAt_in 1 rfl _), (h.1 c).2, ((h.1 c).1 2).trans (result_array m c)⟩, h.2⟩) (run_arrays m ρ)

end Launch
end Cert.Exchange
-- ==== Proof.Rows.lean ====
/-
# Layer normalisation of a row, over the extended reals

The row functions both programs compute: mean, centred entries, variance, normalised entries. The kernel
multiplies by the reciprocal square root of the variance plus epsilon, the reference by one over its square
root; the two agree because a variance plus epsilon is positive.
-/
module

public import proofs.«01_k».proof.Proof.Gen.KernelIdeal.Skeleton
public import proofs.«01_k».proof.Proof.Gen.ReferenceIdeal.Run
public import Idealize.ShloMosaic.Lib.Pointwise
public import Idealize.ShloMosaic.Lib.Layout

@[expose] public section

noncomputable section

namespace Cert.Rows

open Idealize.ShloMosaic
open scoped BigOperators

/-- A row of 512 entries. -/
abbrev Row : Type := Fin 512 → EReal

/-- The row length as the programs' constant, -/
def len : EReal := Ideal.ofBits .f32 0x44000000#32
/-- and their epsilon. -/
def eps : EReal := Ideal.ofBits .f32 0x3727C5AC#32

/-- The mean of a row. -/
def mean (a : Row) : EReal := Ideal.div (∑ k, a k) len
/-- An entry less the mean. -/
def cent (a : Row) (k : Fin 512) : EReal := a k - mean a
/-- The variance of a row. -/
def var (a : Row) : EReal := Ideal.div (∑ k, cent a k * cent a k) len
/-- A normalised entry. -/
def hat (a : Row) (k : Fin 512) : EReal := cent a k * Ideal.rsqrt (var a + eps)

/-- The constant is 512. -/
theorem len_eq : len = ((512 : ℝ) : EReal) := by
  have h : BitVec.extractLsb' 31 1 (1140850688#32) ≠ 1#1 := by decide
  norm_num [len, Ideal.ofBits, Ideal.ieee, Nat.shiftRight_eq_div_pow, h]

/-- It is positive. -/
theorem len_pos : 0 < len := by
  rw [len_eq]; exact_mod_cast (by norm_num : (0 : ℝ) < 512)

/-- Epsilon is a positive real. -/
theorem eps_pos : 0 < eps := by
  have h : BitVec.extractLsb' 31 1 (925353388#32) ≠ 1#1 := by decide
  norm_num [eps, Ideal.ofBits, Ideal.ieee, Nat.shiftRight_eq_div_pow, h]

/-- A square is not negative. -/
theorem square_nonneg (a : EReal) : 0 ≤ a * a := by
  rcases le_total 0 a with h | h
  · exact mul_nonneg h h
  · rw [← neg_mul_neg]; exact mul_nonneg (EReal.neg_nonneg.mpr h) (EReal.neg_nonneg.mpr h)

/-- A variance is not negative. -/
theorem var_nonneg (a : Row) : 0 ≤ var a := by
  unfold var Ideal.div
  rw [len_eq, if_neg (by norm_num)]
  refine mul_nonneg (Finset.sum_nonneg fun k _ => square_nonneg _) ?_
  rw [← EReal.coe_inv]; exact_mod_cast (by norm_num : (0 : ℝ) ≤ (512 : ℝ)⁻¹)

/-- One over the square root of a positive number is its reciprocal square root. -/
theorem one_div_sqrt {v : EReal} (h : 0 < v) : Ideal.div 1 (Ideal.sqrt v) = Ideal.rsqrt v := by
  induction v using EReal.rec with
  | bot => exact absurd h (by simp)
  | top => simp [Ideal.div]
  | coe r =>
    have hr : 0 < r := by exact_mod_cast h
    have hs : Real.sqrt r ≠ 0 := (Real.sqrt_pos.mpr hr).ne'
    rw [Ideal.sqrt_coe, Ideal.rsqrt_coe, if_neg hr.le.not_gt, if_neg hr.le.not_gt, if_neg hr.ne', Ideal.div,
      if_neg (by exact_mod_cast hs), one_mul, EReal.coe_inv]

/-- The reference's factor is the kernel's. -/
theorem scale_eq (a : Row) : Ideal.div 1 (Ideal.sqrt (var a + eps)) = Ideal.rsqrt (var a + eps) :=
  one_div_sqrt (lt_of_lt_of_le eps_pos (le_add_of_nonneg_left (var_nonneg a)))

/-! ## The kernel's two sums -/

section Kernel
open Cert.KernelIdeal Cert.KernelIdeal.Gen

/-- Row `r` of a device's block. -/
def row (x : S512x512.Idx → EReal) (r : Fin 512) : Row := fun k => x (ix2 r k)

/-- The kernel's first sum at a column: over the block's rows, the cotangent times the normalised entry. -/
theorem pay5_apply (x dy : Vec Ideal S512x512 .bf16) (j : Fin 512) :
    k0_pay5 x dy (ix1 j) = ∑ r, row dy r j * hat (row x r) j := by
  unfold hat var cent mean row
  pointwise [k0_pay5, k0_pay4]
  rfl

/-- The kernel's second sum at a column: the cotangent over the block's rows. -/
theorem pay2_apply (dy : Vec Ideal S512x512 .bf16) (j : Fin 512) : k0_pay2 (k0_pay4 dy) (ix2 0 j) = ∑ r, row dy r j := by
  unfold row
  pointwise [k0_pay2, k0_pay4]

end Kernel

/-! ## The reference's result -/

section Reference
open Cert.ReferenceIdeal Cert.ReferenceIdeal.Gen

variable {F : FTy → Type} [FloatOps F]

/-- The row means, in a column. -/
def refMean (x : FVec F S1024x512 .f32) : FVec F S1024x1 .f32 :=
  Host.divf (broadcastInDim S1024x1 ![0] bcast_S1024_S1024x1_0
      (Host.reduceAdd x (constant S_ .f32 0x00000000#32) reducesTo_S1024x512_S1024_d1 h_S_))
    (broadcastInDim S1024x1 ![] bcast_S_S1024x1 (constant S_ .f32 0x44000000#32))

/-- The entries less their row's mean. -/
def refCent (x : FVec F S1024x512 .f32) : FVec F S1024x512 .f32 :=
  subf x (broadcastInDim S1024x512 ![0, 1] bcast_S1024x1_S1024x512_0_1 (refMean x))

/-- The number the variance divides by: the row length less zero. -/
def refCount : FVec F S_ .f32 := subf (constant S_ .f32 0x44000000#32) (sitofp .f32 (constantI S_ 32 0#32))

/-- The row variances, in a column: a constant takes their place where that number is not positive. -/
def refVar (x : FVec F S1024x512 .f32) : FVec F S1024x1 .f32 :=
  select (broadcastInDim S1024x1 ![] bcast_S_S1024x1 (cmpf .ogt (refCount (F := F)) (constant S_ .f32 0x00000000#32)))
    (Host.divf (broadcastInDim S1024x1 ![0] bcast_S1024_S1024x1_0
        (Host.reduceAdd (mulf (refCent x) (refCent x)) (constant S_ .f32 0x00000000#32) reducesTo_S1024x512_S1024_d1 h_S_))
      (broadcastInDim S1024x1 ![] bcast_S_S1024x1 refCount))
    (broadcastInDim S1024x1 ![] bcast_S_S1024x1 (constant S_ .f32 0x7FC00000#32))

/-- One over the square root of the variance plus epsilon, in a column. -/
def refScale (x : FVec F S1024x512 .f32) : FVec F S1024x1 .f32 :=
  Host.divf (broadcastInDim S1024x1 ![] bcast_S_S1024x1 (constant S_ .f32 0x3F800000#32))
    (Host.sqrt (addf (refVar x) (broadcastInDim S1024x1 ![] bcast_S_S1024x1 (constant S_ .f32 0x3727C5AC#32))))

/-- The first sum: over all rows, the cotangent times the normalised entry. -/
def refGamma (x dy : FVec F S1024x512 .f32) : FVec F S512 .f32 :=
  Host.reduceAdd (mulf dy (mulf (refCent x) (broadcastInDim S1024x512 ![0, 1] bcast_S1024x1_S1024x512_0_1 (refScale x))))
    (constant S_ .f32 0x00000000#32) reducesTo_S1024x512_S512_d0 h_S_

/-- The second: over all rows, the cotangent. -/
def refBeta (dy : FVec F S1024x512 .f32) : FVec F S512 .f32 :=
  Host.reduceAdd dy (constant S_ .f32 0x00000000#32) reducesTo_S1024x512_S512_d0 h_S_

/-- The reference's result: the two sums, one above the other. -/
def refOut (x dy : FVec F S1024x512 .bf16) : FVec F S2x512 .f32 :=
  concatenate S2x512 0
    [⟨S1x512, broadcastInDim S1x512 ![1] bcast_S512_S1x512_1 (refGamma (extf .f32 x bitsLt_bf16_f32) (extf .f32 dy bitsLt_bf16_f32))⟩,
     ⟨S1x512, broadcastInDim S1x512 ![1] bcast_S512_S1x512_1 (refBeta (extf .f32 dy bitsLt_bf16_f32))⟩]
    concatenates_S1x512_S1x512_S2x512_d0

/-- Row `r` of the whole array. -/
def fullRow (x : S1024x512.Idx → EReal) (r : Fin 1024) : Row := fun k => x (ix2 r k)

/-- The means, by row. -/
theorem refMean_apply (x : FVec Ideal S1024x512 .f32) (r : Fin 1024) : refMean x (ix2 r 0) = mean (fullRow x r) := by
  unfold mean fullRow
  pointwise [refMean]
  rfl

/-- The centred entries, by row. -/
theorem refCent_apply (x : FVec Ideal S1024x512 .f32) (r : Fin 1024) (k : Fin 512) : refCent x (ix2 r k) = cent (fullRow x r) k := by
  unfold cent
  rw [← refMean_apply]
  pointwise [refCent]
  rfl

/-- The divisor is 512. -/
theorem refCount_apply (i : S_.Idx) : refCount (F := Ideal) i = len := by
  pointwise [refCount]
  show len - (((0#32 : BitVec 32).toInt : ℝ) : EReal) = len
  simp

/-- The variance, by row. -/
theorem refVar_apply (x : FVec Ideal S1024x512 .f32) (r : Fin 1024) : refVar x (ix2 r 0) = var (fullRow x r) := by
  unfold var
  simp only [← refCent_apply]
  pointwise [refVar, refCount_apply]
  rw [if_pos len_pos]

/-- The scale, by row. -/
theorem refScale_apply (x : FVec Ideal S1024x512 .f32) (r : Fin 1024) :
    refScale x (ix2 r 0) = Ideal.rsqrt (var (fullRow x r) + eps) := by
  rw [← scale_eq, ← refVar_apply]
  pointwise [refScale]
  rfl

/-- The first sum at a column. -/
theorem refGamma_apply (x dy : FVec Ideal S1024x512 .f32) (j : Fin 512) :
    refGamma x dy (ix1 j) = ∑ r, fullRow dy r j * hat (fullRow x r) j := by
  unfold hat
  simp only [← refCent_apply, ← refScale_apply]
  unfold fullRow
  pointwise [refGamma]

/-- The second at a column. -/
theorem refBeta_apply (dy : FVec Ideal S1024x512 .f32) (j : Fin 512) : refBeta dy (ix1 j) = ∑ r, fullRow dy r j := by
  unfold fullRow
  pointwise [refBeta]

/-- The result's first row holds the first sum, -/
theorem refOut_zero (x dy : FVec Ideal S1024x512 .bf16) (j : Fin 512) : refOut x dy (ix2 0 j) = refGamma x dy (ix1 j) := by
  pointwise [refOut]
  rfl

/-- and its second row the second. -/
theorem refOut_one (x dy : FVec Ideal S1024x512 .bf16) (j : Fin 512) : refOut x dy (ix2 1 j) = refBeta dy (ix1 j) := by
  pointwise [refOut]
  rfl

end Reference

end Cert.Rows
-- ==== Proof.Value.lean ====
/-
# The kernel's result is the reference's

Each device's block is one half of the rows: a device and its peer hold the two halves, so the sum of their
partial sums is the sum over all rows.
-/
module

public import proofs.«01_k».proof.Defs
public import proofs.«01_k».proof.Proof.Launched
public import proofs.«01_k».proof.Proof.Rows

@[expose] public section

noncomputable section

namespace Cert.Halves

open Idealize.ShloMosaic Idealize.ShloMosaic.TcCoe Idealize.SL.Sem
open Cert.KernelIdeal Cert.KernelIdeal.Gen Cert.Exchange Cert.Rows
open scoped BigOperators

/-- Row `r` of half `b` of the 1024 rows. -/
def inHalf (b : Fin 2) (r : Fin 512) : Fin 1024 := ⟨b.val * 512 + r.val, by omega⟩

/-- A sum over all rows is the sum over one half and the sum over the other, in either order. -/
theorem sum_halves (f : Fin 1024 → EReal) (b b' : Fin 2) (h : b ≠ b') :
    ∑ r, f r = ∑ r, f (inHalf b r) + ∑ r, f (inHalf b' r) := by
  have h0 : ∑ r, f r = ∑ r, f (inHalf 0 r) + ∑ r, f (inHalf 1 r) := by
    rw [show ∑ r, f r = ∑ r : Fin (512 + 512), f r from rfl, Fin.sum_univ_add]
    refine congrArg₂ (· + ·) (Finset.sum_congr rfl fun r _ => congrArg f (Fin.ext ?_))
      (Finset.sum_congr rfl fun r _ => congrArg f (Fin.ext ?_))
    · show r.val = 0 * 512 + r.val; omega
    · show 512 + r.val = 1 * 512 + r.val; omega
  fin_cases b <;> fin_cases b'
  · exact absurd rfl h
  · exact h0
  · exact h0.trans (add_comm _ _)
  · exact absurd rfl h

/-- The half of the rows device `c` holds. -/
def half (c : Dev nD) : Fin 2 := ⟨c.val % 2, by omega⟩

/-- A device and its peer hold different halves. -/
theorem half_peer (c : Dev nD) : half c ≠ half (peer c) := by revert c; decide

/-- A device's part of an array cut along its rows. -/
def block (c : Dev nD) (v : Cert.ReferenceIdeal.S1024x512.Idx → EReal) : S512x512.Idx → EReal :=
  Layout.blockN ⟨2, ![512, 512]⟩ ⟨2, ![1024, 512]⟩ (Layout.meshBlock [2, 2] ![[1], []] c) v

/-- A row of a device's part is a row of the whole. -/
theorem row_block (c : Dev nD) (v : Cert.ReferenceIdeal.S1024x512.Idx → EReal) (r : Fin 512) :
    row (block c v) r = fullRow v (inHalf (half c) r) := by
  have hb : ((Layout.meshBlock [2, 2] ![[1], []] c) (0 : Fin 2)).val = (half c).val
      ∧ ((Layout.meshBlock [2, 2] ![[1], []] c) (1 : Fin 2)).val = 0 := by revert c; decide
  funext k
  unfold row fullRow block
  rw [Layout.blockN_apply]
  refine congrArg v (funext fun a => Fin.ext ?_)
  rw [Layout.TilesN.idx_val]
  fin_cases a
  · show ((Layout.meshBlock [2, 2] ![[1], []] c) (0 : Fin 2)).val * 512 + r.val = (half c).val * 512 + r.val
    rw [hb.1]
  · show ((Layout.meshBlock [2, 2] ![[1], []] c) (1 : Fin 2)).val * 512 + k.val = k.val
    rw [hb.2]; omega

/-- A device's column index is the one-row array's. -/
theorem column_eq (j : Fin 512) : column j = ix2 0 j := by
  funext a; fin_cases a <;> rfl

section Memory
variable (m : (ℓ : Loc nD τ sig) → Buf (Elt Ideal) ℓ)

/-- The block the kernel reads of its first argument is the argument, -/
theorem xIn_eq (c : Dev nD) : xIn m c = m ((c : Thread nD τ).loc main_arg0) := by
  unfold xIn iblk
  funext i
  refine congrArg (m ((c : Thread nD τ).loc main_arg0)) (funext fun a => Fin.ext ?_)
  exact Pipeline.Window.rect_emb_val_of_index_zero (cfg0.win 0) t0_0 a (by fin_cases a <;> rfl) i

/-- and likewise for its second. -/
theorem dyIn_eq (c : Dev nD) : dyIn m c = m ((c : Thread nD τ).loc main_arg1) := by
  unfold dyIn iblk
  funext i
  refine congrArg (m ((c : Thread nD τ).loc main_arg1)) (funext fun a => Fin.ext ?_)
  exact Pipeline.Window.rect_emb_val_of_index_zero (cfg0.win 1) t0_0 a (by fin_cases a <;> rfl) i

/-- The first row of a device's partial sums. -/
theorem part_zero (c : Dev nD) (j : Fin 512) : part m c (ix2 0 j) = ∑ r, row (dyIn m c) r j * hat (row (xIn m c) r) j := by
  rw [← pay5_apply]
  refine (if_pos (rfl : ((ix2 (0 : Fin 2) j) (0 : Fin 2)).val = 0)).trans ?_
  show k0_pay1 _ (column j) = _
  rw [column_eq]
  pointwise [k0_pay1]

/-- The second. -/
theorem part_one (c : Dev nD) (j : Fin 512) : part m c (ix2 1 j) = ∑ r, row (dyIn m c) r j := by
  rw [← pay2_apply]
  refine (if_neg (Nat.one_ne_zero : ((ix2 (1 : Fin 2) j) (0 : Fin 2)).val ≠ 0)).trans ?_
  show k0_pay2 _ (column j) = _
  rw [column_eq]

/-- With each device's arguments its parts of the reference's, its result is the reference's result. -/
theorem total_eq (x dy : FVec Ideal Cert.ReferenceIdeal.S1024x512 .bf16)
    (hx : ∀ c : Dev nD, m ((c : Thread nD τ).loc main_arg0) = block c x)
    (hdy : ∀ c : Dev nD, m ((c : Thread nD τ).loc main_arg1) = block c dy) (c : Dev nD) :
    total m c = refOut x dy := by
  have e (d : Dev nD) : xIn m d = block d x ∧ dyIn m d = block d dy := ⟨(xIn_eq m d).trans (hx d), (dyIn_eq m d).trans (hdy d)⟩
  funext i
  obtain ⟨a, j, rfl⟩ : ∃ (a : Fin 2) (j : Fin 512), i = ix2 a j := ⟨i 0, i 1, by funext b; fin_cases b <;> rfl⟩
  show part m c (ix2 a j) + part m (peer c) (ix2 a j) = _
  fin_cases a
  · refine (congrArg₂ (· + ·) (part_zero m c j) (part_zero m (peer c) j)).trans (Eq.symm ?_)
    refine (refOut_zero x dy j).trans ((refGamma_apply x dy j).trans ?_)
    simp only [(e _).1, (e _).2, row_block]
    exact sum_halves (fun r => fullRow dy r j * hat (fullRow x r) j) _ _ (half_peer c)
  · refine (congrArg₂ (· + ·) (part_one m c j) (part_one m (peer c) j)).trans (Eq.symm ?_)
    refine (refOut_one x dy j).trans ((refBeta_apply dy j).trans ?_)
    simp only [(e _).2, row_block]
    exact sum_halves (fun r => fullRow dy r j) _ _ (half_peer c)

end Memory

/-- The reference runs to its result. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v21)
          = refOut (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2) :=
  (θ_run Cert.ReferenceIdeal.defs _ _).mono (fun _ h c => ⟨(h c).1.trans rfl, (h c).2⟩) (Cert.ReferenceIdeal.Value.run m ρ)

end Cert.Halves
-- ==== Proof.lean ====
/-
# The certificate

The kernel's run on the four devices and the reference's on one give the claims: both programs run, leave
their arguments unchanged and every counter at zero, and the kernel's result on every device is the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

set_option maxRecDepth 10000 in
/-- The procedures of the two printings of the kernel agree at every label and argument. -/
theorem procs_same : Cert.Kernel.defs₀ (F := Bits) = Cert.KernelIdeal.defs₀ (F := Bits) := by
  unfold Cert.Kernel.defs₀ Cert.KernelIdeal.defs₀
  refine congrArg Defs.onTc (funext fun l => funext fun x => ?_)
  rcases l with ⟨_ | _, h⟩
  · rfl
  · omega

/-- So do their procedures together with the pipelines' own. -/
theorem defs_same : Cert.Kernel.defs (F := Bits) = Cert.KernelIdeal.defs (F := Bits) :=
  congrArg (Pipeline.defs (Cert.Kernel.pcfgs (F := Bits))) procs_same

/-- The kernel at bit patterns runs, its arguments unchanged and every counter at zero in the end: its text is
    the idealized program's, whose run holds at any float values. -/
theorem frame_kernel : Cert.quiescent_Kernel (hKernel := Cert.Kernel.Gen.facts) := fun m g _ => by
  rw [defs_same]
  exact (θ_run Cert.KernelIdeal.defs _ _).mono
    (fun _ h => ⟨fun c => ⟨(h.1 c).1, (h.1 c).2.1, (h.1 c).2.2.1⟩, h.2⟩) (Cert.Exchange.run_main (F := Bits) m g)

/-- The idealized kernel likewise. -/
theorem frame_ideal : Cert.quiescent_KernelIdeal (hKernelIdeal := Cert.KernelIdeal.Gen.facts) := fun m g _ =>
  (θ_run Cert.KernelIdeal.defs _ _).mono (fun _ h => ⟨fun c => ⟨(h.1 c).1, (h.1 c).2.1, (h.1 c).2.2.1⟩, h.2⟩)
    (Cert.Exchange.run_main (F := Ideal) m g)

/-- The reference likewise: it has no counters. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.Halves.run_reference m g)

/-- With the arguments cut as stated, every device's result is the reference's. -/
theorem equal : Cert.algebraic_KernelIdeal_ReferenceIdeal (hKernelIdeal := Cert.KernelIdeal.Gen.facts)
    (hReferenceIdeal := Cert.ReferenceIdeal.Gen.facts) := fun m g m' g' _ h =>
  ⟨_, (θ_run Cert.KernelIdeal.defs _ _).mono
      (fun _ k c => ⟨(k.1 c).2.2.2.trans (Cert.Halves.total_eq m _ _ (fun d => (h d).1) (fun d => (h d).2.1) c),
        (k.1 c).1, (k.1 c).2.1, (k.1 c).2.2.1⟩)
      (Cert.Exchange.run_main (F := Ideal) m g),
    (θ_run Cert.ReferenceIdeal.defs _ _).mono (fun _ k => k 0) (Cert.Halves.run_reference m' g')⟩

/-- All the claims. -/
theorem claim : Cert.Claim := ⟨Cert.Kernel.Gen.facts, Cert.KernelIdeal.Gen.facts, Cert.ReferenceIdeal.Gen.facts,
  frame_kernel, frame_ideal, frame_reference, trivial, equal⟩

end Cert.Proof

end
